-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x256 : Shape := ⟨2, ![65536, 256]⟩
abbrev S256 : Shape := ⟨1, ![256]⟩
abbrev S7x8192x256 : Shape := ⟨3, ![7, 8192, 256]⟩
abbrev S7 : Shape := ⟨1, ![7]⟩
abbrev S1 : Shape := ⟨1, ![1]⟩
abbrev S_ : Shape := ⟨0, ![]⟩
abbrev S1x8192x256 : Shape := ⟨3, ![1, 8192, 256]⟩
abbrev S8192x256 : Shape := ⟨2, ![8192, 256]⟩

abbrev nBuf : Space → Nat
  | .hbm => 6
  | .vmem => 1
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256, .i32⟩
  | .hbm, ⟨3, _⟩ => ⟨S256, .f32⟩
  | .hbm, ⟨4, _⟩ => ⟨S65536x256, .f32⟩
  | .hbm, ⟨5, _⟩ => ⟨S65536x256, .f32⟩
  | .local _ .vmem, ⟨0, _⟩ => ⟨S7x8192x256, .f32⟩
  | _, _ => ⟨S65536x256, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== ReferenceIdeal.lean ====
abbrev S65536x256 : Shape := ⟨2, ![65536, 256]⟩
abbrev S256 : Shape := ⟨1, ![256]⟩

abbrev nBuf : Space → Nat
  | .hbm => 4
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256, .i32⟩
  | .hbm, ⟨3, _⟩ => ⟨S256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩

abbrev nD : Nat := 1
abbrev τ : Topo := Topo.v7x

variable {F : FTy → Type} [FloatOps F]
-- ==== Proof.Pieces.lean ====
/-
  The pieces the copy kernel's transfers move, under names of their own: row block `b` of a 65536 x 256 array
  (`rows M b`, eight of them, 8192 rows each), slot `s` of the seven-slot ring (`slot s`), and semaphore `s` of an
  array of seven (`cell A s`). Each slice written out in the program is one of these (the `sl_canon` equations), and a
  buffer held whole is held piece by piece (`array_blocks`, `ring_blocks`) and back.
-/
module

public import proofs.«01_k».proof.Proof.Gen.Kernel
public import Idealize.ShloMosaic.Lib.Pipeline.Routed
public import Idealize.ShloMosaic.Lib.Ring
public import Idealize.ShloMosaic.Lib.Tactic

@[expose] public section

set_option maxRecDepth 16384

noncomputable section

namespace Cert.Proof.Copy

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ (Pipeline.UC sig nD τ) ℕ

/-! ## Names -/

/-- The two inputs, the two outputs and the ring, each whole. -/
abbrev inM0 : Memref sig .tc .hbm S65536x256 .f32 := Memref.whole main_arg0
abbrev inM1 : Memref sig .tc .hbm S65536x256 .f32 := Memref.whole main_arg1
abbrev outM0 : Memref sig .tc .hbm S65536x256 .f32 := Memref.whole main_v0_0
abbrev outM1 : Memref sig .tc .hbm S65536x256 .f32 := Memref.whole main_v0_1
abbrev ringM : Memref sig .tc .vmem S7x8192x256 .f32 := Memref.whole cc0_scratch0

/-- Where row block `b`, slot `s` and cell `s` start. -/
abbrev rowOff (b : Fin 8) : Fin 2 → Nat := ![8192 * b.val, 0]
abbrev slotOff (s : Fin 7) : Fin 3 → Nat := ![s.val, 0, 0]
abbrev cellOff (s : Fin 7) : Fin 1 → Nat := ![s.val]

theorem rowOff_inb (b : Fin 8) : ∀ a, rowOff b a + S8192x256.size a ≤ S65536x256.size a := by
  have := b.isLt; intro a; fin_cases a
  · show 8192 * b.val + 8192 ≤ 65536; omega
  · show 0 + 256 ≤ 256; omega
theorem slotOff_inb (s : Fin 7) : ∀ a, slotOff s a + S1x8192x256.size a ≤ S7x8192x256.size a := by
  have := s.isLt; intro a; fin_cases a
  · show s.val + 1 ≤ 7; omega
  · show 0 + 8192 ≤ 8192; omega
  · show 0 + 256 ≤ 256; omega
theorem cellOff_inb (s : Fin 7) : ∀ a, cellOff s a + S1.size a ≤ S7.size a := by
  have := s.isLt; intro a; fin_cases a; show s.val + 1 ≤ 7; omega

/-- The rectangle of row block `b`, and that of slot `s`. -/
abbrev rowRect (b : Fin 8) : Rect S65536x256 := Rect.unit (rowOff b) S8192x256.size (rowOff_inb b)
abbrev slotRect (s : Fin 7) : Rect S7x8192x256 := Rect.unit (slotOff s) S1x8192x256.size (slotOff_inb s)

/-- Row block `b` of an array: rows `8192 b` to `8192 b + 8191`. -/
def rows (M : Memref sig .tc .hbm S65536x256 .f32) (b : Fin 8) : Memref sig .tc .hbm S8192x256 .f32 :=
  M.slice (rowRect b) (fun _ => rfl)
/-- Slot `s` of the ring. -/
def slot (s : Fin 7) : Memref sig .tc .vmem S8192x256 .f32 :=
  (ringM.slice (slotRect s) (fun _ => rfl)).squeeze S8192x256 squeezes_S1x8192x256_S8192x256
/-- Semaphore `s` of an array of seven. -/
def cell (A : DmaSems sig S7) (s : Fin 7) : DmaSems sig S_ :=
  (A.slice (Rect.unit (s := S7) (cellOff s) S1.size (cellOff_inb s))).squeeze S_ squeezes_S1_S_

/-! ## The program's slices are these -/

theorem rows_congr (M : Memref sig .tc .hbm S65536x256 .f32) {off : Fin 2 → Nat} {b : Fin 8} (e : off = rowOff b) (hh hs) :
    M.slice (Rect.unit (s := S65536x256) off S8192x256.size hh) hs = rows M b := Memref.slice_unit_congr M e hh (rowOff_inb b) hs (fun _ => rfl)
theorem slot_congr {off : Fin 3 → Nat} {s : Fin 7} (e : off = slotOff s) (hh hs) :
    (ringM.slice (Rect.unit (s := S7x8192x256) off S1x8192x256.size hh) hs).squeeze S8192x256 squeezes_S1x8192x256_S8192x256 = slot s :=
  congrArg (fun M : Memref sig .tc .vmem S1x8192x256 .f32 => M.squeeze S8192x256 squeezes_S1x8192x256_S8192x256)
    (Memref.slice_unit_congr _ e _ _ _ _)
theorem cell_congr (A : DmaSems sig S7) {off : Fin 1 → Nat} {s : Fin 7} (e : off = cellOff s) (hh) :
    (A.slice (Rect.unit (s := S7) off S1.size hh)).squeeze S_ squeezes_S1_S_ = cell A s :=
  congrArg (fun A : DmaSems sig S1 => A.squeeze S_ squeezes_S1_S_) (SemArray.slice_unit_congr _ e _ _)

/-- The array slices in the program's text are the row blocks. -/
@[sl_canon] theorem rows_0 (M : Memref sig .tc .hbm S65536x256 .f32) (hh hs) :
    M.slice (Rect.unit (s := S65536x256) ![0, 0] S8192x256.size hh) hs = rows M 0 := rows_congr M (by decide) _ _
@[sl_canon] theorem rows_1 (M : Memref sig .tc .hbm S65536x256 .f32) (hh hs) :
    M.slice (Rect.unit (s := S65536x256) ![8192, 0] S8192x256.size hh) hs = rows M 1 := rows_congr M (by decide) _ _
@[sl_canon] theorem rows_2 (M : Memref sig .tc .hbm S65536x256 .f32) (hh hs) :
    M.slice (Rect.unit (s := S65536x256) ![16384, 0] S8192x256.size hh) hs = rows M 2 := rows_congr M (by decide) _ _
@[sl_canon] theorem rows_3 (M : Memref sig .tc .hbm S65536x256 .f32) (hh hs) :
    M.slice (Rect.unit (s := S65536x256) ![24576, 0] S8192x256.size hh) hs = rows M 3 := rows_congr M (by decide) _ _
@[sl_canon] theorem rows_4 (M : Memref sig .tc .hbm S65536x256 .f32) (hh hs) :
    M.slice (Rect.unit (s := S65536x256) ![32768, 0] S8192x256.size hh) hs = rows M 4 := rows_congr M (by decide) _ _
@[sl_canon] theorem rows_5 (M : Memref sig .tc .hbm S65536x256 .f32) (hh hs) :
    M.slice (Rect.unit (s := S65536x256) ![40960, 0] S8192x256.size hh) hs = rows M 5 := rows_congr M (by decide) _ _
@[sl_canon] theorem rows_6 (M : Memref sig .tc .hbm S65536x256 .f32) (hh hs) :
    M.slice (Rect.unit (s := S65536x256) ![49152, 0] S8192x256.size hh) hs = rows M 6 := rows_congr M (by decide) _ _
@[sl_canon] theorem rows_7 (M : Memref sig .tc .hbm S65536x256 .f32) (hh hs) :
    M.slice (Rect.unit (s := S65536x256) ![57344, 0] S8192x256.size hh) hs = rows M 7 := rows_congr M (by decide) _ _

/-- The ring slices in the program's text are the slots. -/
@[sl_canon] theorem slot_0 (hh hs) :
    (ringM.slice (Rect.unit (s := S7x8192x256) ![0, 0, 0] S1x8192x256.size hh) hs).squeeze S8192x256 squeezes_S1x8192x256_S8192x256 = slot 0 :=
  slot_congr (by decide) _ _
@[sl_canon] theorem slot_1 (hh hs) :
    (ringM.slice (Rect.unit (s := S7x8192x256) ![1, 0, 0] S1x8192x256.size hh) hs).squeeze S8192x256 squeezes_S1x8192x256_S8192x256 = slot 1 :=
  slot_congr (by decide) _ _
@[sl_canon] theorem slot_2 (hh hs) :
    (ringM.slice (Rect.unit (s := S7x8192x256) ![2, 0, 0] S1x8192x256.size hh) hs).squeeze S8192x256 squeezes_S1x8192x256_S8192x256 = slot 2 :=
  slot_congr (by decide) _ _
@[sl_canon] theorem slot_3 (hh hs) :
    (ringM.slice (Rect.unit (s := S7x8192x256) ![3, 0, 0] S1x8192x256.size hh) hs).squeeze S8192x256 squeezes_S1x8192x256_S8192x256 = slot 3 :=
  slot_congr (by decide) _ _
@[sl_canon] theorem slot_4 (hh hs) :
    (ringM.slice (Rect.unit (s := S7x8192x256) ![4, 0, 0] S1x8192x256.size hh) hs).squeeze S8192x256 squeezes_S1x8192x256_S8192x256 = slot 4 :=
  slot_congr (by decide) _ _
@[sl_canon] theorem slot_5 (hh hs) :
    (ringM.slice (Rect.unit (s := S7x8192x256) ![5, 0, 0] S1x8192x256.size hh) hs).squeeze S8192x256 squeezes_S1x8192x256_S8192x256 = slot 5 :=
  slot_congr (by decide) _ _
@[sl_canon] theorem slot_6 (hh hs) :
    (ringM.slice (Rect.unit (s := S7x8192x256) ![6, 0, 0] S1x8192x256.size hh) hs).squeeze S8192x256 squeezes_S1x8192x256_S8192x256 = slot 6 :=
  slot_congr (by decide) _ _

/-- The semaphore slices in the program's text are the cells. -/
@[sl_canon] theorem cell_0 (A : DmaSems sig S7) (hh) :
    (A.slice (Rect.unit (s := S7) ![0] S1.size hh)).squeeze S_ squeezes_S1_S_ = cell A 0 := cell_congr A (by decide) _
@[sl_canon] theorem cell_1 (A : DmaSems sig S7) (hh) :
    (A.slice (Rect.unit (s := S7) ![1] S1.size hh)).squeeze S_ squeezes_S1_S_ = cell A 1 := cell_congr A (by decide) _
@[sl_canon] theorem cell_2 (A : DmaSems sig S7) (hh) :
    (A.slice (Rect.unit (s := S7) ![2] S1.size hh)).squeeze S_ squeezes_S1_S_ = cell A 2 := cell_congr A (by decide) _
@[sl_canon] theorem cell_3 (A : DmaSems sig S7) (hh) :
    (A.slice (Rect.unit (s := S7) ![3] S1.size hh)).squeeze S_ squeezes_S1_S_ = cell A 3 := cell_congr A (by decide) _
@[sl_canon] theorem cell_4 (A : DmaSems sig S7) (hh) :
    (A.slice (Rect.unit (s := S7) ![4] S1.size hh)).squeeze S_ squeezes_S1_S_ = cell A 4 := cell_congr A (by decide) _
@[sl_canon] theorem cell_5 (A : DmaSems sig S7) (hh) :
    (A.slice (Rect.unit (s := S7) ![5] S1.size hh)).squeeze S_ squeezes_S1_S_ = cell A 5 := cell_congr A (by decide) _
@[sl_canon] theorem cell_6 (A : DmaSems sig S7) (hh) :
    (A.slice (Rect.unit (s := S7) ![6] S1.size hh)).squeeze S_ squeezes_S1_S_ = cell A 6 := cell_congr A (by decide) _

/-! ## What is held of each -/

variable (c : Dev nD)

/-- Row block `b` of `M` at contents `f`, by its own elements. -/
abbrev rowsP (M : Memref sig .tc .hbm S65536x256 .f32) (f : Buf (Elt F) (M.view.loc (c : Thread nD τ))) (b : Fin 8) : sProp 𝕄 :=
  (rows M b).view.loc (c : Thread nD τ) ↦[(rows M b).view.set]{fullShare} f
/-- Slot `s` at contents `f`, by its own elements. -/
abbrev slotP (f : Buf (Elt F) ((c : Thread nD τ).loc cc0_scratch0)) (s : Fin 7) : sProp 𝕄 :=
  (slot s).view.loc (c : Thread nD τ) ↦[(slot s).view.set]{fullShare} f
/-- Semaphore `s` of `A` at zero. -/
abbrev cellP (A : DmaSems sig S7) (s : Fin 7) : sProp 𝕄 := semVal ((c : Thread nD τ), SemLoc.dma (cell A s).sem) 0

/-- Eight pieces, and seven, one by one. -/
theorem eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-! ## Whole buffers in pieces -/

/-- Distinct row blocks share no element, and the eight are the array. -/
theorem rowRect_disjoint (b b' : Fin 8) (h : b ≠ b') : Disjoint (rowRect b).set (rowRect b').set :=
  Ring.lead_disjoint (s := S65536x256) 0 8192 rowOff S8192x256.size rowOff_inb (fun _ => rfl) rfl b b' h
theorem rowRect_cover : Finset.univ.biUnion (fun b => (rowRect b).set) = Finset.univ :=
  Ring.lead_cover (s := S65536x256) 0 8192 rowOff S8192x256.size rowOff_inb (fun _ => rfl)
    (fun b a h => by fin_cases a; · exact absurd rfl h
                     · rfl)
    rfl (fun a h => by fin_cases a; · exact absurd rfl h
                       · rfl) rfl
/-- Distinct slots share no element, and the seven are the ring. -/
theorem slotRect_disjoint (s s' : Fin 7) (h : s ≠ s') : Disjoint (slotRect s).set (slotRect s').set :=
  Ring.lead_disjoint (s := S7x8192x256) 0 1 slotOff S1x8192x256.size slotOff_inb (fun s => (Nat.one_mul s.val).symm) rfl s s' h
theorem slotRect_cover : Finset.univ.biUnion (fun s => (slotRect s).set) = Finset.univ :=
  Ring.lead_cover (s := S7x8192x256) 0 1 slotOff S1x8192x256.size slotOff_inb (fun s => (Nat.one_mul s.val).symm)
    (fun b a h => by fin_cases a; · exact absurd rfl h
                     · rfl
                     · rfl)
    rfl (fun a h => by fin_cases a; · exact absurd rfl h
                       · rfl
                       · rfl) rfl

/-- A row block's elements are its rectangle's, seen in the array; -/
theorem rows_set (M : Memref sig .tc .hbm S65536x256 .f32) (b : Fin 8) :
    (rows M b).view.set = (rowRect b).set.map M.view.emb := View.set_slice M.view (rowRect b)
/-- a slot's are its rectangle's. -/
theorem slot_set (s : Fin 7) : (slot s).view.set = (slotRect s).set := (View.set_reshape _ _).trans (View.set_slice_whole _ _)

/-- An array held whole is its eight row blocks. -/
theorem array_blocks (M : Memref sig .tc .hbm S65536x256 .f32) (hM : M.view.set = Finset.univ) (f : Buf (Elt F) (M.view.loc (c : Thread nD τ))) :
    (M.view.loc (c : Thread nD τ) ↦{fullShare} f : sProp 𝕄) = bigSep Finset.univ (rowsP c M f) := by
  refine Ring.pointsTo_blocks (ℓ := M.view.loc (c : Thread nD τ)) (fun b => (rows M b).view.set) ?_ ?_ f
  · intro b b' h; rw [rows_set, rows_set]; exact (Finset.disjoint_map _).mpr (rowRect_disjoint b b' h)
  · ext i
    refine ⟨fun _ => Finset.mem_univ i, fun _ => ?_⟩
    obtain ⟨x, -, hx⟩ := Finset.mem_map.mp (hM ▸ Finset.mem_univ i : i ∈ M.view.set)
    obtain ⟨b, -, hb⟩ := Finset.mem_biUnion.mp (rowRect_cover ▸ Finset.mem_univ x)
    exact Finset.mem_biUnion.mpr ⟨b, Finset.mem_univ b, by rw [rows_set]; exact Finset.mem_map.mpr ⟨x, hb, hx⟩⟩

/-- The ring held whole is its seven slots; -/
theorem ring_blocks (f : Buf (Elt F) ((c : Thread nD τ).loc cc0_scratch0)) :
    (((c : Thread nD τ).loc cc0_scratch0) ↦{fullShare} f : sProp 𝕄) = bigSep Finset.univ (slotP c f) := by
  rw [Ring.pointsTo_blocks (ℓ := (c : Thread nD τ).loc cc0_scratch0) (fun s => (slotRect s).set) slotRect_disjoint slotRect_cover]
  exact bigSep_congr fun s _ => by rw [← slot_set]; rfl
/-- and seven slots, each at some contents, are the ring at some contents. -/
theorem ring_join (f₀ : Buf (Elt F) ((c : Thread nD τ).loc cc0_scratch0)) :
    bigSep Finset.univ (fun s => iprop(∃ f, slotP c f s))
      ⊢ (iprop(∃ f : Buf (Elt F) ((c : Thread nD τ).loc cc0_scratch0), ((c : Thread nD τ).loc cc0_scratch0) ↦{fullShare} f) : sProp 𝕄) := by
  rw [show bigSep Finset.univ (fun s => iprop(∃ f, slotP c f s))
      = (bigSep Finset.univ fun s => iprop(∃ f, ((c : Thread nD τ).loc cc0_scratch0) ↦[(slotRect s).set]{fullShare} f) : sProp 𝕄)
    from bigSep_congr fun s _ => by rw [← slot_set]; rfl]
  exact Ring.pointsTo_blocks_join_exists (ℓ := (c : Thread nD τ).loc cc0_scratch0) (fun s => (slotRect s).set) slotRect_disjoint slotRect_cover f₀

/-! ## What a transfer leaves -/

/-- Equal assertions entail each other. -/
theorem entails_of_eq {P Q : sProp 𝕄} (e : P = Q) : P ⊢ Q := e ▸ .rfl

/-- A slot filled whole reads as what it was last filled with. -/
theorem slot_read (s : Fin 7) (Z : Buf (Elt F) ((slot s).view.loc (c : Thread nD τ))) (p : S8192x256.Idx → Elt F .f32) (L) :
    ReadAs.same.apply ((slot s).view.read (Elt F) ((slot s).view.writes (Elt F) Z (⟨Rect.whole S8192x256, p⟩ :: L))) = p := by
  rw [← View.write_univ_eq_writes_whole]
  exact View.read_write_univ _ _

/-- A view written whole with what it reads of `X` agrees with `X` on its elements. -/
theorem view_filled {κ : Kind} {sp : Space} {s : Shape} {e : EltTy} (v : View sig κ sp s e) (Y X : v.ty.Contents (Elt F)) (i : v.ty.Idx)
    (hi : i ∈ v.set) : v.writes (Elt F) Y [⟨Rect.whole s, v.read (Elt F) X⟩] i = X i := by
  obtain ⟨z, -, rfl⟩ := Finset.mem_map.mp hi
  rw [← View.write_univ_eq_writes_whole, View.write_emb_of_mem _ _ (Finset.mem_univ _), View.read_apply, cast_cast, cast_eq]

/-- A row block filled whole with the same block of `X` is held at `X`. -/
theorem rows_filled (M : Memref sig .tc .hbm S65536x256 .f32) (Y X : Buf (Elt F) (M.view.loc (c : Thread nD τ))) (b : Fin 8)
    (p : S8192x256.Idx → Elt F .f32) (hp : p = (rows M b).view.read (Elt F) X) :
    ((rows M b).view.loc (c : Thread nD τ) ↦[(rows M b).view.set]{fullShare} (rows M b).view.writes (Elt F) Y [⟨Rect.whole S8192x256, p⟩] : sProp 𝕄)
      ⊢ rowsP c M X b := by
  subst hp
  exact entails_of_eq (pointsTo_congr fun i hi => view_filled (rows M b).view Y X i hi)

end Cert.Proof.Copy

end
-- ==== Proof.Body.lean ====
/-
  The copy kernel's body, run once. It moves sixteen row blocks, eight of each input, through the seven slots of the
  ring: a block is loaded from its input into a slot, then stored from the slot into the same rows of the matching
  output, five loads kept in flight ahead of the stores. Held at entry: both inputs and both outputs in row blocks, the
  ring in slots, the fourteen semaphores at zero. The executor follows the transfers (`body_run`); each output block ends
  holding what its slot read, the slot what the input block read, hence the input's contents (`rows_filled`, `slot_read`).
-/
module

public import proofs.«01_k».proof.Proof.Pieces
public import proofs.«01_k».proof.Proof.Gen.Kernel.Skeleton
public import proofs.«01_k».proof.Proof.Gen.Kernel.Points
public import proofs.«01_k».proof.Proof.Gen.Kernel.Launch

@[expose] public section

set_option maxRecDepth 16384

noncomputable section

namespace Cert.Proof.Copy

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (c : Dev nD) (X0 : Buf (Elt F) ((c : Thread nD τ).loc main_arg0)) (X1 : Buf (Elt F) ((c : Thread nD τ).loc main_arg1))

/-- What the body is handed: the inputs at `X0`, `X1`, the outputs at `Y0`, `Y1` and the ring at `Z`, in pieces; every
    semaphore at zero; the core's waits. -/
abbrev PRE (Y0 : Buf (Elt F) ((c : Thread nD τ).loc main_v0_0)) (Y1 : Buf (Elt F) ((c : Thread nD τ).loc main_v0_1))
    (Z : Buf (Elt F) ((c : Thread nD τ).loc cc0_scratch0)) (W : Waits sig Unit) : sProp 𝕄 :=
  iprop(bigSep Finset.univ (rowsP c inM0 X0) ∗ bigSep Finset.univ (rowsP c inM1 X1)
    ∗ bigSep Finset.univ (rowsP c outM0 Y0) ∗ bigSep Finset.univ (rowsP c outM1 Y1)
    ∗ bigSep Finset.univ (slotP c Z)
    ∗ bigSep Finset.univ (cellP (F := F) c cc0_scratch1) ∗ bigSep Finset.univ (cellP (F := F) c cc0_scratch2)
    ∗ owes (c : Thread nD τ) 0 W)
/-- What it hands back: the inputs as they were, the outputs at the inputs' contents, the slots at some contents, every
    semaphore at zero. -/
abbrev POST : sProp 𝕄 :=
  iprop(bigSep Finset.univ (rowsP c inM0 X0) ∗ bigSep Finset.univ (rowsP c inM1 X1)
    ∗ bigSep Finset.univ (rowsP c outM0 X0) ∗ bigSep Finset.univ (rowsP c outM1 X1)
    ∗ bigSep Finset.univ (fun s => iprop(∃ f, slotP (F := F) c f s))
    ∗ bigSep Finset.univ (cellP (F := F) c cc0_scratch1) ∗ bigSep Finset.univ (cellP (F := F) c cc0_scratch2)
    ∗ ∃ W, owes (c : Thread nD τ) 0 W)

/-- THE BODY: from `PRE` it runs to `POST`, all sixteen blocks copied. -/
theorem body_run (Y0 Y1 Z W) (Q : PUnit → sProp 𝕄) :
    iprop(PRE c X0 X1 Y0 Y1 Z W ∗ (POST c X0 X1 -∗ Q ⟨⟩))
      ⊢ wp frame (wpE (defs₀ (F := F)) Variants.none (c : Thread nD τ) none) Set.univ (bodyAt0 t0_0) Q := by
  rw [show bodyAt0 (F := F) t0_0 = cc0__copy_body _ _ _ _ _ _ _ _ _ _ _ _ from rfl, cc0__copy_body_eq_skeleton]
  unfold PRE POST
  simp only [eight, seven]
  iintro ⟨⟨⟨Ha0, Ha1, Ha2, Ha3, Ha4, Ha5, Ha6, Ha7⟩, ⟨Hb0, Hb1, Hb2, Hb3, Hb4, Hb5, Hb6, Hb7⟩, ⟨Ho0, Ho1, Ho2, Ho3, Ho4, Ho5, Ho6, Ho7⟩, ⟨Hp0, Hp1, Hp2, Hp3, Hp4, Hp5, Hp6, Hp7⟩, ⟨Hs0, Hs1, Hs2, Hs3, Hs4, Hs5, Hs6⟩, ⟨Hl0, Hl1, Hl2, Hl3, Hl4, Hl5, Hl6⟩, ⟨Ht0, Ht1, Ht2, Ht3, Ht4, Ht5, Ht6⟩, HW⟩, Hk⟩
  sl_unfold [cc0__copy_body_skel]
  sl_exec
  sl_step
  iapply Hk
  isplitl [Ha0 Ha1 Ha2 Ha3 Ha4 Ha5 Ha6 Ha7]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [Hb0 Hb1 Hb2 Hb3 Hb4 Hb5 Hb6 Hb7]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [Ho0 Ho1 Ho2 Ho3 Ho4 Ho5 Ho6 Ho7]
  · isplitl [Ho0]; · iapply (rows_filled c outM0 Y0 X0 0 _ ((slot_read c _ _ _ _).trans rfl)); iexact Ho0
    isplitl [Ho1]; · iapply (rows_filled c outM0 Y0 X0 1 _ ((slot_read c _ _ _ _).trans rfl)); iexact Ho1
    isplitl [Ho2]; · iapply (rows_filled c outM0 Y0 X0 2 _ ((slot_read c _ _ _ _).trans rfl)); iexact Ho2
    isplitl [Ho3]; · iapply (rows_filled c outM0 Y0 X0 3 _ ((slot_read c _ _ _ _).trans rfl)); iexact Ho3
    isplitl [Ho4]; · iapply (rows_filled c outM0 Y0 X0 4 _ ((slot_read c _ _ _ _).trans rfl)); iexact Ho4
    isplitl [Ho5]; · iapply (rows_filled c outM0 Y0 X0 5 _ ((slot_read c _ _ _ _).trans rfl)); iexact Ho5
    isplitl [Ho6]; · iapply (rows_filled c outM0 Y0 X0 6 _ ((slot_read c _ _ _ _).trans rfl)); iexact Ho6
    iapply (rows_filled c outM0 Y0 X0 7 _ ((slot_read c _ _ _ _).trans rfl)); iexact Ho7
  isplitl [Hp0 Hp1 Hp2 Hp3 Hp4 Hp5 Hp6 Hp7]
  · isplitl [Hp0]; · iapply (rows_filled c outM1 Y1 X1 0 _ ((slot_read c _ _ _ _).trans rfl)); iexact Hp0
    isplitl [Hp1]; · iapply (rows_filled c outM1 Y1 X1 1 _ ((slot_read c _ _ _ _).trans rfl)); iexact Hp1
    isplitl [Hp2]; · iapply (rows_filled c outM1 Y1 X1 2 _ ((slot_read c _ _ _ _).trans rfl)); iexact Hp2
    isplitl [Hp3]; · iapply (rows_filled c outM1 Y1 X1 3 _ ((slot_read c _ _ _ _).trans rfl)); iexact Hp3
    isplitl [Hp4]; · iapply (rows_filled c outM1 Y1 X1 4 _ ((slot_read c _ _ _ _).trans rfl)); iexact Hp4
    isplitl [Hp5]; · iapply (rows_filled c outM1 Y1 X1 5 _ ((slot_read c _ _ _ _).trans rfl)); iexact Hp5
    isplitl [Hp6]; · iapply (rows_filled c outM1 Y1 X1 6 _ ((slot_read c _ _ _ _).trans rfl)); iexact Hp6
    iapply (rows_filled c outM1 Y1 X1 7 _ ((slot_read c _ _ _ _).trans rfl)); iexact Hp7
  isplitl [Hs0 Hs1 Hs2 Hs3 Hs4 Hs5 Hs6]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexists _; iexact Hs6
  isplitl [Hl0 Hl1 Hl2 Hl3 Hl4 Hl5 Hl6]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  isplitl [Ht0 Ht1 Ht2 Ht3 Ht4 Ht5 Ht6]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    iexact Ht6
  iexists _; iexact HW

end Cert.Proof.Copy

end
-- ==== Proof.Run.lean ====
/-
  The copy kernel's run. The one pallas_call stages nothing: the two inputs and the two outputs are routed whole through
  the body's invariant (`Pipeline.θ_run_frame_routed`), the ring and the fourteen semaphores are the call's own. Before the
  body the outputs hold what they held at launch, after it the inputs' contents (`body_obligation`, by `body_run`), so every
  execution ends with the arguments unchanged, each output equal to its input and every semaphore at zero (`run_main`).
-/
module

public import proofs.«01_k».proof.Proof.Body
public import proofs.«01_k».proof.Proof.Gen.Kernel.Frame

@[expose] public section

set_option maxRecDepth 16384

noncomputable section

namespace Cert.Proof.Copy

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F]

local notation "𝕄" => MT nD τ sig Unit (Elt F) ℕ (Pipeline.UC sig nD τ) ℕ

variable (m : (ℓ : Loc nD τ sig) → Buf (Elt F) ℓ) (g : Dev nD → PrngReg)

/-! ## What is routed through the body -/

/-- The call's own semaphores: the seven the loads complete on, the seven the stores complete on. -/
def osem : Fin 7 ⊕ Fin 7 → SemLoc sig :=
  Sum.elim (fun s => .dma (cell cc0_scratch1 s).sem) (fun s => .dma (cell cc0_scratch2 s).sem)
theorem ownSemFacts : Pipeline.OwnSemFacts cfg0.spec osem := by decide

/-- The arrays routed through the body: the two inputs and the two outputs. -/
def arrays : Finset (Ref sig .tc) := {main_arg0, main_arg1, main_v0_0, main_v0_1}
theorem arrays_sub : arrays ⊆ Pipeline.restRefs sig cfg0.spec := by decide

/-- The buffers after the body: as at launch, but the outputs at the inputs' contents. -/
def after (c : Dev nD) : (b : Ref sig .tc) → Buf (Elt F) ((c : Thread nD τ).loc b) :=
  Function.update (Function.update (V m c) main_v0_0 (m ((c : Thread nD τ).loc main_arg0))) main_v0_1 (m ((c : Thread nD τ).loc main_arg1))
theorem after_arg0 (c : Dev nD) : after m c main_arg0 = m ((c : Thread nD τ).loc main_arg0) :=
  (Function.update_of_ne (by decide) _ _).trans (Function.update_of_ne (by decide) _ _)
theorem after_arg1 (c : Dev nD) : after m c main_arg1 = m ((c : Thread nD τ).loc main_arg1) :=
  (Function.update_of_ne (by decide) _ _).trans (Function.update_of_ne (by decide) _ _)
theorem after_out0 (c : Dev nD) : after m c main_v0_0 = m ((c : Thread nD τ).loc main_arg0) :=
  (Function.update_of_ne (by decide) _ _).trans (Function.update_self _ _ _)
theorem after_out1 (c : Dev nD) : after m c main_v0_1 = m ((c : Thread nD τ).loc main_arg1) := Function.update_self _ _ _

/-- The routed arrays, one by one. -/
theorem routed_eq (c : Dev nD) (W : (b : Ref sig .tc) → Buf (Elt F) ((c : Thread nD τ).loc b)) :
    (Pipeline.routed arrays c W : sProp 𝕄)
      = iprop((((c : Thread nD τ).loc main_arg0) ↦{fullShare} W main_arg0) ∗ (((c : Thread nD τ).loc main_arg1) ↦{fullShare} W main_arg1)
          ∗ (((c : Thread nD τ).loc main_v0_0) ↦{fullShare} W main_v0_0) ∗ (((c : Thread nD τ).loc main_v0_1) ↦{fullShare} W main_v0_1)) := by
  unfold Pipeline.routed
  rw [BI.bigSep_eq_bigSepL_of_eq [main_arg0, main_arg1, main_v0_0, main_v0_1] (by decide) (by decide)]
  rfl
/-- The call's own semaphores at zero, in their two arrays. -/
theorem ownSems_eq (c : Dev nD) :
    (Pipeline.ownSems0 (Ix := Unit) (Name := ℕ) (U := Pipeline.UC sig nD τ) (Lvl := ℕ) (Val := Elt F) (τ := τ) osem c : sProp 𝕄)
      = iprop(bigSep Finset.univ (cellP (F := F) c cc0_scratch1) ∗ bigSep Finset.univ (cellP (F := F) c cc0_scratch2)) :=
  BI.bigSep_univ_sum _

/-! ## The body obligation -/

/-- The body's invariant at one end, the arrays at contents `W`. -/
abbrev ends (c : Dev nD) (W : (b : Ref sig .tc) → Buf (Elt F) ((c : Thread nD τ).loc b)) : sProp 𝕄 :=
  Pipeline.Ends cfg0.spec osem arrays c W

/-- The proof data: no window; the invariant is the arrays at launch before the body, `after` behind it. -/
def dats (_ : Fin 1) (c : Dev nD) : Dat τ (Elt F) Unit ℕ (Pipeline.UC sig nD τ) ℕ cfg0 c where
  A w := w.elim0
  after w := w.elim0
  Φ t := ends c (if t.val = 0 then V m c else after m c)
  q _ := fullShare
  owed _ := 0

/-- The body from the launch contents to `after`, over the invariant's two ends. -/
theorem ends_run (c : Dev nD) (W : Waits sig Unit) (Q : PUnit → sProp 𝕄) :
    iprop(ends c (V m c) ∗ owes (c : Thread nD τ) 0 W ∗ (iprop(ends c (after m c) ∗ ∃ W, owes (c : Thread nD τ) 0 W) -∗ Q ⟨⟩))
      ⊢ wp frame (wpE (defs₀ (F := F)) Variants.none (c : Thread nD τ) none) Set.univ (bodyAt0 t0_0) Q := by
  unfold ends Pipeline.Ends
  rw [routed_eq, routed_eq, ownSems_eq, scopedRest0_eq, after_arg0, after_arg1, after_out0, after_out1]
  iintro ⟨⟨⟨H0, H1, H2, H3⟩, ⟨Hl, Ht⟩, ⟨%Z, HZ⟩, Hp⟩, HW, Hk⟩
  ihave H0' := (entails_of_eq (array_blocks c inM0 (View.set_whole _) (m ((c : Thread nD τ).loc main_arg0)))) $$ H0
  ihave H1' := (entails_of_eq (array_blocks c inM1 (View.set_whole _) (m ((c : Thread nD τ).loc main_arg1)))) $$ H1
  ihave H2' := (entails_of_eq (array_blocks c outM0 (View.set_whole _) (m ((c : Thread nD τ).loc main_v0_0)))) $$ H2
  ihave H3' := (entails_of_eq (array_blocks c outM1 (View.set_whole _) (m ((c : Thread nD τ).loc main_v0_1)))) $$ H3
  ihave HZ' := (entails_of_eq (ring_blocks c Z)) $$ HZ
  iapply (body_run c (m ((c : Thread nD τ).loc main_arg0)) (m ((c : Thread nD τ).loc main_arg1)) _ _ Z W)
  isplitl [H0' H1' H2' H3' HZ' Hl Ht HW]
  · unfold PRE
    isplitl [H0']; · iexact H0'
    isplitl [H1']; · iexact H1'
    isplitl [H2']; · iexact H2'
    isplitl [H3']; · iexact H3'
    isplitl [HZ']; · iexact HZ'
    isplitl [Hl]; · iexact Hl
    isplitl [Ht]; · iexact Ht
    iexact HW
  · unfold POST
    iintro ⟨H0, H1, H2, H3, HZ, Hl, Ht, HW⟩
    iapply Hk
    isplitr [HW]
    · isplitl [H0 H1 H2 H3]
      · isplitl [H0]; · iapply (entails_of_eq (array_blocks c inM0 (View.set_whole _) (m ((c : Thread nD τ).loc main_arg0))).symm); iexact H0
        isplitl [H1]; · iapply (entails_of_eq (array_blocks c inM1 (View.set_whole _) (m ((c : Thread nD τ).loc main_arg1))).symm); iexact H1
        isplitl [H2]; · iapply (entails_of_eq (array_blocks c outM0 (View.set_whole _) (m ((c : Thread nD τ).loc main_arg0))).symm); iexact H2
        iapply (entails_of_eq (array_blocks c outM1 (View.set_whole _) (m ((c : Thread nD τ).loc main_arg1))).symm); iexact H3
      isplitl [Hl Ht]
      · isplitl [Hl]; · iexact Hl
        iexact Ht
      isplitl [HZ]
      · iapply (ring_join c Z); iexact HZ
      iexact Hp
    · iexact HW

/-- What the launch theorem asks of the body. -/
theorem body_obligation (c : Dev nD) : BodyObligation (dats (F := F) m 0 c) (defs₀ (F := F)) Variants.none () Set.univ := fun t => by
  obtain rfl : t = t0_0 := fin_N0 t
  rw [show (Finset.univ : Finset (Fin cfg0.W)) = ∅ from rfl, bigSep_empty, bigSep_empty]
  rw [show (dats (F := F) m 0 c).Φ t0_0.castSucc = ends c (V m c) from rfl, show (dats (F := F) m 0 c).Φ t0_0.succ = ends c (after m c) from rfl]
  unfold Dat.owesAt Pipeline.owesWithin
  rw [show (dats (F := F) m 0 c).owed t0_0.castSucc = 0 from rfl, show (dats (F := F) m 0 c).owed t0_0.succ = 0 from rfl]
  iintro ⟨He, ⟨%W, -, HW⟩, -⟩
  iapply (ends_run m c W)
  isplitl [He]; · iexact He
  isplitl [HW]; · iexact HW
  iintro ⟨He, ⟨%W', HW⟩⟩
  isplitl [He]; · iexact He
  isplitl [HW]
  · iexists W'; isplitr; · ipureintro; exact fun _ _ => Or.inl trivial
    iexact HW
  iempintro

/-! ## The run -/

/-- The state every execution ends in: the four arguments unchanged, each output equal to its input, every semaphore
    at zero. -/
def Ended (r : PUnit × MemSt nD τ sig (Elt F)) : Prop :=
  (∀ c : Dev nD,
    r.2.mem ((c : Thread nD τ).loc main_v0_0) = m ((c : Thread nD τ).loc main_arg0)
    ∧ r.2.mem ((c : Thread nD τ).loc main_v0_1) = m ((c : Thread nD τ).loc main_arg1)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

/-- THE RUN: from any memory with zero semaphores, every weakly fair execution of @main terminates in such a state. -/
theorem run_main : θ_run (defs (F := F)) (onTc (τ := τ) (main (F := F))) ⟨m, fun _ => 0, g⟩ (Ended m) :=
  Pipeline.θ_run_frame_routed cfgs (dats m) 0 launch0 ownSemFacts defs₀ Variants.none m g main
    (hbody := fun c => (body_obligation m c).loose) (hshare := fun c w => w.elim0) (howed := fun _ _ => rfl)
    (V := V m) (hmain := Pipeline.hmain_region cfgs 0 defs₀ Variants.none m main fun c => (main_chain c).trans rfl)
    (hA := fun c w => w.elim0) (R := arrays) (hR := arrays_sub) (Y := after m)
    (hin := fun c => .rfl) (hout := fun c => .rfl)
    (Q' := Ended m)
    (hQ' := fun r ⟨h, hz⟩ => ⟨fun c => ⟨((h c).2.1 main_v0_0 (by decide)).trans (after_out0 m c),
      ((h c).2.1 main_v0_1 (by decide)).trans (after_out1 m c),
      ((h c).2.1 main_arg0 (by decide)).trans (after_arg0 m c),
      ((h c).2.1 main_arg1 (by decide)).trans (after_arg1 m c),
      (h c).2.2 main_arg2 (by decide), (h c).2.2 main_arg3 (by decide)⟩, hz⟩)

end Cert.Proof.Copy

end
-- ==== Proof.Ideal.lean ====
/-
  The kernel's idealization has the kernel's own text: its signature, bodies and @main are the kernel's, operation for
  operation, under another name. So the run proved of the kernel for any float values is the idealization's run
  (`run_ideal`).
-/
module

public import proofs.«01_k».proof.Proof.Run
public import proofs.«01_k».proof.Proof.Gen.KernelIdeal

@[expose] public section

set_option maxRecDepth 16384

noncomputable section

namespace Cert.Proof.Copy

open Idealize.ShloMosaic Idealize.SL.Sem

variable {F : FTy → Type} [FloatOps F]

/-- The two programs' body tables and @mains are the same. -/
theorem defs_eq : Cert.KernelIdeal.defs (F := F) = Cert.Kernel.defs (F := F) := rfl
theorem main_eq : Cert.KernelIdeal.main (F := F) = Cert.Kernel.main (F := F) := rfl

/-- The idealization's run, from the kernel's. -/
theorem run_ideal (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (Ended (F := F) m) := by
  rw [defs_eq, main_eq]
  exact run_main m g

end Cert.Proof.Copy

end
-- ==== Proof.lean ====
/-
  The certificate: the copy kernel, run on two 65536 x 256 arrays, ends with each output equal to its input, its
  arguments unchanged and every semaphore at zero (Proof/Run.lean); its idealization likewise (Proof/Ideal.lean); the
  reference returns its two arguments as they are, so the two programs' results are equal.
-/
module

public import proofs.«01_k».proof.Defs
public import proofs.«01_k».proof.Proof.Ideal
public import proofs.«01_k».proof.Proof.Gen.ReferenceIdeal
public import Idealize.ShloMosaic.Lib.Claim

@[expose] public section

noncomputable section

namespace Cert.Proof

open Idealize.ShloMosaic Idealize.SL.Sem

/-- The kernel's frame: its arguments unchanged, every semaphore at zero. -/
theorem frame_kernel : Cert.quiescent_Kernel (hKernel := Cert.Kernel.Gen.facts) := fun m g _ =>
  (θ_run _ _ _).mono (fun _ h => ⟨fun c => (h.1 c).2.2, h.2⟩) (Copy.run_main (F := Bits) m g)

/-- The idealization's frame: its arguments unchanged, every semaphore at zero. -/
theorem frame_ideal : Cert.quiescent_KernelIdeal (hKernelIdeal := Cert.KernelIdeal.Gen.facts) := fun m g _ =>
  (θ_run _ _ _).mono (fun _ h => ⟨fun c => (h.1 c).2.2, h.2⟩) (Copy.run_ideal (F := Ideal) m g)

/-- The reference's frame: its arguments unchanged; it declares no semaphore. -/
theorem frame_reference : Cert.quiescent_ReferenceIdeal (hReferenceIdeal := Cert.ReferenceIdeal.Gen.facts) := by
  intro m g _
  hlo_run
  · exact fun _ => ⟨trivial, trivial, trivial, trivial⟩
  · exact sem_eq_zero_of_no_sems (by decide) _

/-- The two results agree: the kernel's outputs and the reference's are both the two inputs. -/
theorem results_equal : Cert.algebraic_KernelIdeal_ReferenceIdeal (hKernelIdeal := Cert.KernelIdeal.Gen.facts)
    (hReferenceIdeal := Cert.ReferenceIdeal.Gen.facts) := by
  intro m g m' g' hpre hagree
  refine ⟨fun c => m (c.tc.loc Cert.KernelIdeal.main_arg0), fun c => m (c.tc.loc Cert.KernelIdeal.main_arg1),
    (θ_run _ _ _).mono (fun _ h => h.1) (Copy.run_ideal (F := Ideal) m g),
    (θ_run _ _ _).mono (fun _ h c => ⟨((h.1 c).1).trans (hagree c).1, ((h.1 c).2.1).trans (hagree c).2.1, h.1 c⟩)
      (frame_reference m' g' trivial)⟩

/-- Every claim of the certificate. -/
theorem claim : Cert.Claim :=
  ⟨Cert.Kernel.Gen.facts, Cert.KernelIdeal.Gen.facts, Cert.ReferenceIdeal.Gen.facts,
    frame_kernel, frame_ideal, frame_reference, trivial, results_equal⟩

end Cert.Proof

end
